-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S100000x128 : Shape := ⟨2, ![100000, 128]⟩
abbrev S2x1600000 : Shape := ⟨2, ![2, 1600000]⟩
abbrev S100000 : Shape := ⟨1, ![100000]⟩
abbrev S512x128 : Shape := ⟨2, ![512, 128]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S4x512 : Shape := ⟨2, ![4, 512]⟩
abbrev S4 : Shape := ⟨1, ![4]⟩
abbrev S_ : Shape := ⟨0, ![]⟩

class Facts : Prop where
  bcast_S_S1x256 : S_.BroadcastsInDim S1x256 (![] : Fin 0 → Fin S1x256.rank)
  reducesTo_S1x256_S_d0_1 : S1x256.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S100000x128 .f32) (main_arg1 : IVec S2x1600000 32) (main_arg2 : IVec S100000 32) (main_arg3 : FVec F S512x128 .f32) (main_arg4 : FVec F S512 .f32) (main_arg5 : FVec F S256x512 .f32) (main_arg6 : FVec F S256 .f32) (main_arg7 : FVec F S256x512 .f32) (main_arg8 : FVec F S256 .f32) (main_arg9 : FVec F S1x256 .f32) (main_arg10 : FVec F S1 .f32) (main_arg11 : FVec F S4x512 .f32) (main_arg12 : FVec F S4 .f32) : IVec S_ 1 :=
  let main_v0 : FVec F S1x256 .f32 := Host.absf main_arg9
  let main_cst : FVec F S_ .f32 := constant S_ .f32 0x7F800000#32
  let main_v1 : FVec F S1x256 .f32 := broadcastInDim S1x256 ![] bcast_S_S1x256 main_cst
  let main_v2 : IVec S1x256 1 := cmpf .olt main_v0 main_v1
  let main_c : IVec S_ 1 := constantI S_ 1 1#1
  let main_v3 : IVec S_ 1 := (fun x v => Host.reduce IntOp.andi x v reducesTo_S1x256_S_d0_1 h_S_) main_v2 main_c
  let main_v4 : FVec F S1 .f32 := Host.absf main_arg10
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S100000x128 : Shape := ⟨2, ![100000, 128]⟩
abbrev S2x1600000 : Shape := ⟨2, ![2, 1600000]⟩
abbrev S100000 : Shape := ⟨1, ![100000]⟩
abbrev S512x128 : Shape := ⟨2, ![512, 128]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S4x512 : Shape := ⟨2, ![4, 512]⟩
abbrev S4 : Shape := ⟨1, ![4]⟩
abbrev S25x1x4000 : Shape := ⟨3, ![25, 1, 4000]⟩
abbrev S1x512 : Shape := ⟨2, ![1, 512]⟩
abbrev S_ : Shape := ⟨0, ![]⟩
abbrev S1x1 : Shape := ⟨2, ![1, 1]⟩
abbrev S1x4 : Shape := ⟨2, ![1, 4]⟩
abbrev S16x4 : Shape := ⟨2, ![16, 4]⟩
abbrev S4000x128 : Shape := ⟨2, ![4000, 128]⟩
abbrev S1x1x4000 : Shape := ⟨3, ![1, 1, 4000]⟩
abbrev S16x1 : Shape := ⟨2, ![16, 1]⟩
abbrev S16x512 : Shape := ⟨2, ![16, 512]⟩
abbrev S4000x512 : Shape := ⟨2, ![4000, 512]⟩
abbrev S4000x256 : Shape := ⟨2, ![4000, 256]⟩
abbrev S1x4000 : Shape := ⟨2, ![1, 4000]⟩
abbrev S16x4000 : Shape := ⟨2, ![16, 4000]⟩
abbrev S16 : Shape := ⟨1, ![16]⟩

abbrev nBuf : Space → Nat
  | .hbm => 28
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S512x128, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S4x512, .f32⟩
  | .hbm, ⟨12, _⟩ => ⟨S4, .f32⟩
  | .hbm, ⟨13, _⟩ => ⟨S25x1x4000, .i32⟩
  | .hbm, ⟨14, _⟩ => ⟨S512, .f32⟩
  | .hbm, ⟨15, _⟩ => ⟨S1x512, .f32⟩
  | .hbm, ⟨16, _⟩ => ⟨S1x512, .f32⟩
  | .hbm, ⟨17, _⟩ => ⟨S1x256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S1x4, .f32⟩
  | .hbm, ⟨27, _⟩ => ⟨S16x4, .f32⟩
  | .local _ .vmem, ⟨0, _⟩ => ⟨S4000x128, .f32⟩
  | .local _ .vmem, ⟨1, _⟩ => ⟨S4000x128, .f32⟩
  | .local _ .vmem, ⟨2, _⟩ => ⟨S1x1x4000, .i32⟩
  | .local _ .vmem, ⟨3, _⟩ => ⟨S1x1x4000, .i32⟩
  | .local _ .vmem, ⟨4, _⟩ => ⟨S512x128, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x256, .f32⟩
  | .local _ .vmem, ⟨10, _⟩ => ⟨S1x1, .f32⟩
  | .local _ .vmem, ⟨11, _⟩ => ⟨S4x512, .f32⟩
  | .local _ .vmem, ⟨12, _⟩ => ⟨S1x4, .f32⟩
  | .local _ .vmem, ⟨13, _⟩ => ⟨S16x4, .f32⟩
  | .local _ .vmem, ⟨14, _⟩ => ⟨S16x1, .f32⟩
  | .local _ .vmem, ⟨15, _⟩ => ⟨S16x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v61 : BitVec 1 := Scalar.cmpi .eq arg0 c24_i32
  let v62 : BitVec 32 := Scalar.extui v61
  let c0_i32_37 : BitVec 32 := 0#32
  let v63 : BitVec 1 := Scalar.cmpi .ne v62 c0_i32_37
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S100000x128 : Shape := ⟨2, ![100000, 128]⟩
abbrev S2x1600000 : Shape := ⟨2, ![2, 1600000]⟩
abbrev S100000 : Shape := ⟨1, ![100000]⟩
abbrev S512x128 : Shape := ⟨2, ![512, 128]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S4x512 : Shape := ⟨2, ![4, 512]⟩
abbrev S4 : Shape := ⟨1, ![4]⟩
abbrev S128x512 : Shape := ⟨2, ![128, 512]⟩
abbrev S100000x512 : Shape := ⟨2, ![100000, 512]⟩
abbrev S1x512 : Shape := ⟨2, ![1, 512]⟩
abbrev S_ : Shape := ⟨0, ![]⟩
abbrev S512x256 : Shape := ⟨2, ![512, 256]⟩
abbrev S100000x256 : Shape := ⟨2, ![100000, 256]⟩
abbrev S256x1 : Shape := ⟨2, ![256, 1]⟩
abbrev S100000x1 : Shape := ⟨2, ![100000, 1]⟩
abbrev S1x1 : Shape := ⟨2, ![1, 1]⟩
abbrev S1x100000 : Shape := ⟨2, ![1, 100000]⟩
abbrev S16 : Shape := ⟨1, ![16]⟩
abbrev S16x1 : Shape := ⟨2, ![16, 1]⟩
abbrev S16x100000 : Shape := ⟨2, ![16, 100000]⟩
abbrev S16x512 : Shape := ⟨2, ![16, 512]⟩
abbrev S512x4 : Shape := ⟨2, ![512, 4]⟩
abbrev S16x4 : Shape := ⟨2, ![16, 4]⟩
abbrev S1x4 : Shape := ⟨2, ![1, 4]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S512x128, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S4x512, .f32⟩
  | .hbm, ⟨12, _⟩ => ⟨S4, .f32⟩
  | .hbm, ⟨13, _⟩ => ⟨S128x512, .f32⟩
  | .hbm, ⟨14, _⟩ => ⟨S100000x512, .f32⟩
  | .hbm, ⟨15, _⟩ => ⟨S1x512, .f32⟩
  | .hbm, ⟨16, _⟩ => ⟨S100000x512, .f32⟩
  | .hbm, ⟨17, _⟩ => ⟨S100000x512, .f32⟩
  | .hbm, ⟨18, _⟩ => ⟨S_, .f32⟩
  | .hbm, ⟨19, _⟩ => ⟨S100000x512, .f32⟩
  | .hbm, ⟨20, _⟩ => ⟨S100000x512, .f32⟩
  | .hbm, ⟨21, _⟩ => ⟨S512x256, .f32⟩
  | .hbm, ⟨22, _⟩ => ⟨S100000x256, .f32⟩
  | .hbm, ⟨23, _⟩ => ⟨S1x256, .f32⟩
  | .hbm, ⟨24, _⟩ => ⟨S100000x256, .f32⟩
  | .hbm, ⟨25, _⟩ => ⟨S100000x256, .f32⟩
  | .hbm, ⟨26, _⟩ => ⟨S100000x256, .f32⟩
  | .hbm, ⟨27, _⟩ => ⟨S512x256, .f32⟩
  | .hbm, ⟨28, _⟩ => ⟨S100000x256, .f32⟩
  | .hbm, ⟨29, _⟩ => ⟨S1x256, .f32⟩
  | .hbm, ⟨30, _⟩ => ⟨S100000x256, .f32⟩
  | .hbm, ⟨31, _⟩ => ⟨S100000x256, .f32⟩
  | .hbm, ⟨32, _⟩ => ⟨S100000x256, .f32⟩
  | .hbm, ⟨33, _⟩ => ⟨S100000x256, .f32⟩
  | .hbm, ⟨34, _⟩ => ⟨S_, .f32⟩
  | .hbm, ⟨35, _⟩ => ⟨S100000x256, .f32⟩
  | .hbm, ⟨36, _⟩ => ⟨S100000x256, .f32⟩
  | .hbm, ⟨37, _⟩ => ⟨S_, .f32⟩
  | .hbm, ⟨38, _⟩ => ⟨S100000x256, .f32⟩
  | .hbm, ⟨39, _⟩ => ⟨S100000x256, .f32⟩
  | .hbm, ⟨40, _⟩ => ⟨S100000x256, .f32⟩
  | .hbm, ⟨41, _⟩ => ⟨S256x1, .f32⟩
  | .hbm, ⟨42, _⟩ => ⟨S100000x1, .f32⟩
  | .hbm, ⟨43, _⟩ => ⟨S1x1, .f32⟩
  | .hbm, ⟨44, _⟩ => ⟨S100000x1, .f32⟩
  | .hbm, ⟨45, _⟩ => ⟨S100000x1, .f32⟩
  | .hbm, ⟨46, _⟩ => ⟨S100000, .f32⟩
  | .hbm, ⟨47, _⟩ => ⟨S1x100000, .i32⟩
  | .hbm, ⟨48, _⟩ => ⟨S16, .i32⟩
  | .hbm, ⟨49, _⟩ => ⟨S16x1, .i32⟩
  | .hbm, ⟨50, _⟩ => ⟨S16x100000, .i32⟩
  | .hbm, ⟨51, _⟩ => ⟨S16x100000, .i32⟩
  | .hbm, ⟨52, _⟩ => ⟨S16x100000, .i1⟩
  | .hbm, ⟨53, _⟩ => ⟨S1x100000, .f32⟩
  | .hbm, ⟨54, _⟩ => ⟨S_, .f32⟩
  | .hbm, ⟨55, _⟩ => ⟨S_, .f32⟩
  | .hbm, ⟨56, _⟩ => ⟨S16x100000, .f32⟩
  | .hbm, ⟨57, _⟩ => ⟨S16x100000, .f32⟩
  | .hbm, ⟨58, _⟩ => ⟨S16x100000, .f32⟩
  | .hbm, ⟨59, _⟩ => ⟨S_, .f32⟩
  | .hbm, ⟨60, _⟩ => ⟨S16, .f32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i32⟩
  | .hbm, ⟨67, _⟩ => ⟨S100000, .i32⟩
  | .hbm, ⟨68, _⟩ => ⟨S100000x1, .i32⟩
  | .hbm, ⟨69, _⟩ => ⟨S100000, .f32⟩
  | .hbm, ⟨70, _⟩ => ⟨S100000, .f32⟩
  | .hbm, ⟨71, _⟩ => ⟨S100000, .f32⟩
  | .hbm, ⟨72, _⟩ => ⟨S_, .f32⟩
  | .hbm, ⟨73, _⟩ => ⟨S16, .f32⟩
  | .hbm, ⟨74, _⟩ => ⟨S100000x1, .i32⟩
  | .hbm, ⟨75, _⟩ => ⟨S16, .f32⟩
  | .hbm, ⟨76, _⟩ => ⟨S_, .i32⟩
  | .hbm, ⟨77, _⟩ => ⟨S100000, .i32⟩
  | .hbm, ⟨78, _⟩ => ⟨S100000, .i1⟩
  | .hbm, ⟨79, _⟩ => ⟨S_, .i32⟩
  | .hbm, ⟨80, _⟩ => ⟨S100000, .i32⟩
  | .hbm, ⟨81, _⟩ => ⟨S100000, .i32⟩
  | .hbm, ⟨82, _⟩ => ⟨S100000, .i32⟩
  | .hbm, ⟨83, _⟩ => ⟨S100000x1, .i32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x512, .f32⟩
  | .hbm, ⟨88, _⟩ => ⟨S100000x512, .f32⟩
  | .hbm, ⟨89, _⟩ => ⟨S_, .f32⟩
  | .hbm, ⟨90, _⟩ => ⟨S16x512, .f32⟩
  | .hbm, ⟨91, _⟩ => ⟨S100000x1, .i32⟩
  | .hbm, ⟨92, _⟩ => ⟨S16x512, .f32⟩
  | .hbm, ⟨93, _⟩ => ⟨S512x4, .f32⟩
  | .hbm, ⟨94, _⟩ => ⟨S16x4, .f32⟩
  | .hbm, ⟨95, _⟩ => ⟨S1x4, .f32⟩
  | .hbm, ⟨96, _⟩ => ⟨S16x4, .f32⟩
  | .hbm, ⟨97, _⟩ => ⟨S16x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_2 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_c : Ref sig .tc := ⟨.hbm, 61, rfl⟩
abbrev main_v40 : Ref sig .tc := ⟨.hbm, 62, rfl⟩
abbrev main_v41 : Ref sig .tc := ⟨.hbm, 63, rfl⟩
abbrev main_c_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_6 : Ref sig .tc := ⟨.hbm, 76, rfl⟩
abbrev main_v52 : Ref sig .tc := ⟨.hbm, 77, rfl⟩
abbrev main_v53 : Ref sig .tc := ⟨.hbm, 78, rfl⟩
abbrev main_c_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== Proof.RefForm.lean ====
/- The reference's result as a composition of named array functions: the hidden layer, the gate, the softmax weights and the
   pooled rows. -/
module
public import proofs.«01_k».proof.Proof.Gen.ReferenceIdeal.Run
public import Idealize.ShloMosaic.PureOps.Ideal

@[expose] public section

set_option maxRecDepth 16384

noncomputable section

namespace Cert.RefForm

open Cert.ReferenceIdeal Cert.ReferenceIdeal.Gen Idealize.ShloMosaic Idealize.ShloMosaic.TcCoe Idealize.SL.Sem

/-- The hidden layer. -/
def hidA (x : FVec Ideal S100000x128 .f32) (wh : FVec Ideal S512x128 .f32) (bh : FVec Ideal S512 .f32) :
    FVec Ideal S100000x512 .f32 :=
  maximumf (addf (Host.dotGeneral dot_S100000x128_S128x512_S100000x512_1_0_0_1_n_n none x
      (transpose S128x512 [1, 0] wh transposes_S512x128_S128x512_1_0))
    (broadcastInDim S100000x512 ![0, 1] bcast_S1x512_S100000x512_0_1 (broadcastInDim S1x512 ![1] bcast_S512_S1x512_1 bh)))
    (broadcastInDim S100000x512 ![] bcast_S_S100000x512 (constant S_ .f32 0x00000000#32))

/-- A linear layer on the hidden units. -/
def linA (h : FVec Ideal S100000x512 .f32) (w : FVec Ideal S256x512 .f32) (b : FVec Ideal S256 .f32) :
    FVec Ideal S100000x256 .f32 :=
  addf (Host.dotGeneral dot_S100000x512_S512x256_S100000x256_1_0_0_1_n_n none h
      (transpose S512x256 [1, 0] w transposes_S256x512_S512x256_1_0))
    (broadcastInDim S100000x256 ![0, 1] bcast_S1x256_S100000x256_0_1 (broadcastInDim S1x256 ![1] bcast_S256_S1x256_1 b))

/-- The gated units from the two layers' results. -/
def unitA (ya yb : FVec Ideal S100000x256 .f32) : FVec Ideal S100000x256 .f32 :=
  mulf (Host.tanh ya)
    (Host.divf (broadcastInDim S100000x256 ![] bcast_S_S100000x256 (constant S_ .f32 0x3F800000#32))
      (addf (broadcastInDim S100000x256 ![] bcast_S_S100000x256 (constant S_ .f32 0x3F800000#32)) (Host.exp (Host.negf yb))))

/-- The gate scores from the gated units. -/
def gateA (u : FVec Ideal S100000x256 .f32) (wc : FVec Ideal S1x256 .f32) (bc : FVec Ideal S1 .f32) :
    FVec Ideal S100000 .f32 :=
  shapeCast S100000 (addf (Host.dotGeneral dot_S100000x256_S256x1_S100000x1_1_0_0_1_n_n none u
      (transpose S256x1 [1, 0] wc transposes_S1x256_S256x1_1_0))
    (broadcastInDim S100000x1 ![0, 1] bcast_S1x1_S100000x1_0_1 (broadcastInDim S1x1 ![1] bcast_S1_S1x1_1 bc)))
    shapeCasts_S100000x1_S100000

/-- The largest gate score of each segment. -/
def maxA (g : FVec Ideal S100000 .f32) (bt : IVec S100000 32) : FVec Ideal S16 .f32 :=
  Host.reduce FloatOps.maximumf (select (cmpi .eq (broadcastInDim S16x100000 ![0, 1] bcast_S1x100000_S16x100000_0_1 (broadcastInDim S1x100000 ![1] bcast_S100000_S1x100000_1 bt))
        (broadcastInDim S16x100000 ![0, 1] bcast_S16x1_S16x100000_0_1 (broadcastInDim S16x1 ![0] bcast_S16_S16x1_0 (iotaInDim S16 32 0))))
      (broadcastInDim S16x100000 ![0, 1] bcast_S1x100000_S16x100000_0_1 (broadcastInDim S1x100000 ![1] bcast_S100000_S1x100000_1 g))
      (broadcastInDim S16x100000 ![] bcast_S_S16x100000 (id (constant S_ .f32 0xFF800000#32))))
    (constant S_ .f32 0xFF800000#32) reducesTo_S16x100000_S16_d1 h_S_

/-- The column of segment numbers, negative ones counted from the end. -/
def wrapA (bt : IVec S100000 32) : IVec S100000x1 32 :=
  broadcastInDim S100000x1 ![0] bcast_S100000_S100000x1_0
    (select (cmpi .slt bt (broadcastInDim S100000 ![] bcast_S_S100000 (constantI S_ 32 0#32)))
      (addi bt (broadcastInDim S100000 ![] bcast_S_S100000 (constantI S_ 32 16#32))) bt)

/-- The column of segment numbers as given. -/
def colA (bt : IVec S100000 32) : IVec S100000x1 32 := broadcastInDim S100000x1 ![0] bcast_S100000_S100000x1_0 bt

/-- The shifted exponentials. -/
def expA (g : FVec Ideal S100000 .f32) (bt : IVec S100000 32) : FVec Ideal S100000 .f32 :=
  Host.exp (subf g (Host.gather gather_S16_S100000x1_S100000_n_0_n_n_0_1_1 (maxA g bt) (wrapA bt)))

/-- Their sum over each segment. -/
def denA (e : FVec Ideal S100000 .f32) (bt : IVec S100000 32) : FVec Ideal S16 .f32 :=
  Host.scatterAdd scatter_S16_S100000x1_S100000_n_0_0_1 (broadcastInDim S16 ![] bcast_S_S16 (constant S_ .f32 0x00000000#32)) (colA bt) e

/-- The softmax weights. -/
def weightA (e : FVec Ideal S100000 .f32) (bt : IVec S100000 32) : FVec Ideal S100000 .f32 :=
  Host.divf e (Host.gather gather_S16_S100000x1_S100000_n_0_n_n_0_1_1 (denA e bt) (wrapA bt))

/-- The weighted sum of the hidden rows over each segment. -/
def poolA (h : FVec Ideal S100000x512 .f32) (w : FVec Ideal S100000 .f32) (bt : IVec S100000 32) : FVec Ideal S16x512 .f32 :=
  Host.scatterAdd scatter_S16x512_S100000x1_S100000x512_1_0_0_1
    (broadcastInDim S16x512 ![] bcast_S_S16x512 (constant S_ .f32 0x00000000#32)) (colA bt)
    (mulf h (broadcastInDim S100000x512 ![0, 1] bcast_S100000x1_S100000x512_0_1 (broadcastInDim S100000x1 ![0] bcast_S100000_S100000x1_0 w)))

/-- The classifier. -/
def clsA (p : FVec Ideal S16x512 .f32) (w : FVec Ideal S4x512 .f32) (b : FVec Ideal S4 .f32) : FVec Ideal S16x4 .f32 :=
  addf (Host.dotGeneral dot_S16x512_S512x4_S16x4_1_0_0_1_n_n none p (transpose S512x4 [1, 0] w transposes_S4x512_S512x4_1_0))
    (broadcastInDim S16x4 ![0, 1] bcast_S1x4_S16x4_0_1 (broadcastInDim S1x4 ![1] bcast_S4_S1x4_1 b))

/-- The whole reference. -/
def outA (x : FVec Ideal S100000x128 .f32) (bt : IVec S100000 32) (wh : FVec Ideal S512x128 .f32) (bh : FVec Ideal S512 .f32)
    (wa : FVec Ideal S256x512 .f32) (ba : FVec Ideal S256 .f32) (wb : FVec Ideal S256x512 .f32) (bb : FVec Ideal S256 .f32)
    (wc : FVec Ideal S1x256 .f32) (bc : FVec Ideal S1 .f32) (wcls : FVec Ideal S4x512 .f32) (bcls : FVec Ideal S4 .f32) :
    FVec Ideal S16x4 .f32 :=
  clsA (poolA (hidA x wh bh)
    (weightA (expA (gateA (unitA (linA (hidA x wh bh) wa ba) (linA (hidA x wh bh) wb bb)) wc bc) bt) bt) bt) wcls bcls

set_option maxHeartbeats 4000000 in
/-- The reference's result is that composition of its arguments. -/
theorem res_eq (m : (ℓ : Loc nD τ sig) → Buf (Elt Ideal) ℓ) (c : Dev nD) :
    Cert.ReferenceIdeal.Value.res_main_v70 m c
      = outA (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12)) := rfl

end Cert.RefForm
-- ==== Proof.Softmax.lean ====
/- Arithmetic of the attention pooling on the extended reals: the gate's bounded factors, and the weighted mean of a
   segment computed with two different shifts of the exponent. -/
module
public import Idealize.ShloMosaic.PureOps.Ideal
public import Mathlib.Analysis.Complex.Trigonometric
public import Mathlib.Tactic.FieldSimp
public import Mathlib.Tactic.Linarith

@[expose] public section

namespace Cert.Attn

open Idealize.ShloMosaic

/-- Half of one plus the hyperbolic tangent of half the argument is the logistic function, at infinite arguments too. -/
theorem half_tanh_eq_logistic (y : EReal) :
    ((1 / 2 : ℝ) : EReal) + ((1 / 2 : ℝ) : EReal) * Ideal.tanh (((1 / 2 : ℝ) : EReal) * y)
      = Ideal.div 1 (1 + Ideal.exp (-y)) := by
  induction y using EReal.rec with
  | bot =>
    rw [EReal.coe_mul_bot_of_pos (by norm_num), EReal.neg_bot]
    simp only [Ideal.exp_top, Ideal.tanh_bot]
    simp only [Ideal.div]
    rw [show (1 : EReal) + ⊤ = ⊤ from by rw [EReal.add_top_of_ne_bot (by decide)]]
    simp only [EReal.top_ne_zero, if_false, EReal.inv_top, mul_zero]
    rw [show (-1 : EReal) = ((-1 : ℝ) : EReal) from rfl, ← EReal.coe_mul, ← EReal.coe_add]
    norm_num
  | top =>
    rw [EReal.coe_mul_top_of_pos (by norm_num), EReal.neg_top]
    simp only [Ideal.exp_bot, Ideal.tanh_top, add_zero]
    rw [show (1 : EReal) = ((1 : ℝ) : EReal) from rfl, Ideal.div_coe one_ne_zero]
    norm_cast; norm_num
  | coe y =>
    have hpos : (1 + Real.exp (-y) : ℝ) ≠ 0 := by positivity
    rw [← EReal.coe_neg, ← EReal.coe_mul]
    simp only [Ideal.exp_coe, Ideal.tanh_coe]
    rw [show (1 : EReal) = ((1 : ℝ) : EReal) from rfl, ← EReal.coe_add, Ideal.div_coe hpos]
    norm_cast
    rw [Real.tanh_eq_sinh_div_cosh, Real.sinh_eq, Real.cosh_eq]
    have e1 : Real.exp (-y) = Real.exp (-(1 / 2 * y)) * Real.exp (-(1 / 2 * y)) := by
      rw [← Real.exp_add]; congr 1; ring
    have e2 : Real.exp (1 / 2 * y) * Real.exp (-(1 / 2 * y)) = 1 := by rw [← Real.exp_add]; simp
    rw [e1]
    generalize Real.exp (1 / 2 * y) = a at *
    have hb := Real.exp_pos (-(1 / 2 * y))
    generalize Real.exp (-(1 / 2 * y)) = b at *
    have ha : a = 1 / b := by field_simp; linarith
    subst ha
    field_simp
    ring

/-- The hyperbolic tangent is a real number at every argument. -/
theorem tanh_real (y : EReal) : ∃ r : ℝ, Ideal.tanh y = (r : EReal) := by
  induction y using EReal.rec with
  | bot => exact ⟨-1, by simp⟩
  | top => exact ⟨1, by simp⟩
  | coe y => exact ⟨Real.tanh y, rfl⟩

/-- The logistic function is a real number at every argument. -/
theorem logistic_real (y : EReal) : ∃ r : ℝ, Ideal.div 1 (1 + Ideal.exp (-y)) = (r : EReal) := by
  obtain ⟨r, hr⟩ := tanh_real (((1 / 2 : ℝ) : EReal) * y)
  refine ⟨1 / 2 + 1 / 2 * r, ?_⟩
  rw [← half_tanh_eq_logistic, hr]
  norm_cast

/-- An extended real whose absolute value is below the top is a real number. -/
theorem real_of_abs_lt_top {x : EReal} (h : max x (-x) < ⊤) : ∃ r : ℝ, x = (r : EReal) := by
  induction x using EReal.rec with
  | bot => simp at h
  | top => simp at h
  | coe y => exact ⟨y, rfl⟩

/-- The sum of finitely many reals is the same on the extended reals. -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_real {ι : Type} (s : Finset ι) (f : ι → EReal) (h : ∀ i, ∃ r : ℝ, f i = (r : EReal)) :
    ∃ r : ℝ, ∑ i ∈ s, f i = (r : EReal) := by
  choose f' hf using h
  exact ⟨∑ i ∈ s, f' i, by simp [hf, coe_sum_real]⟩

/-- A real factor goes through a finite sum of nonnegative extended reals. -/
theorem sum_mul_real {ι : Type} (s : Finset ι) (f : ι → EReal) (hf : ∀ i ∈ s, 0 ≤ f i) (r : ℝ) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg (hf a (by simp)) (Finset.sum_nonneg fun i hi => hf i (by simp [hi])),
      ih fun i hi => hf i (by simp [hi])]

/-- The maximum of the scores in a segment that has an element is a real number. -/
theorem fold_max_real {N : ℕ} (p : Fin N → Prop) [DecidablePred p] (g : Fin N → ℝ) (k : Fin N) (hk : p k) :
    ∃ r : ℝ, Finset.univ.fold max ⊥ (fun n => if p n then (g n : EReal) else ⊥) = (r : EReal) := by
  have hlt : Finset.univ.fold max ⊥ (fun n => if p n then (g n : EReal) else ⊥) < ⊤ := by
    rw [Finset.fold_max_lt]
    exact ⟨bot_lt_top, fun n _ => by split <;> simp [EReal.coe_lt_top]⟩
  have hge : (g k : EReal) ≤ Finset.univ.fold max ⊥ (fun n => if p n then (g n : EReal) else ⊥) := by
    rw [Finset.le_fold_max]
    exact Or.inr ⟨k, Finset.mem_univ k, by simp [hk]⟩
  have hbot : Finset.univ.fold max ⊥ (fun n => if p n then (g n : EReal) else ⊥) ≠ ⊥ :=
    ne_of_gt (lt_of_lt_of_le (EReal.bot_lt_coe _) hge)
  exact ⟨_, (EReal.coe_toReal hlt.ne hbot).symm⟩

/-- The softmax-weighted sum over a segment, with the scores shifted by the segment's maximum before the exponential and
    each weight divided, is the unnormalised sum with any other real shift times the inverse of its total weight (and both
    are zero on a segment without elements). The values `h` are nonnegative and may be infinite. -/
theorem segment_mean {N : ℕ} (p : Fin N → Prop) [DecidablePred p] (g : Fin N → ℝ) (h : Fin N → EReal)
    (hh : ∀ n, 0 ≤ h n) (sh : ℝ) (M : EReal)
    (hM : M = Finset.univ.fold max ⊥ (fun n => if p n then (g n : EReal) else ⊥)) :
    (∑ n with p n, h n * Ideal.div (Ideal.exp ((g n : EReal) - M)) (∑ k with p k, Ideal.exp ((g k : EReal) - M)))
      = (∑ n, (if p n then Ideal.exp ((g n : EReal) - (sh : EReal)) else 0) * h n)
        * (if 0 < ∑ n, (if p n then Ideal.exp ((g n : EReal) - (sh : EReal)) else 0)
            then Ideal.div 1 (∑ n, (if p n then Ideal.exp ((g n : EReal) - (sh : EReal)) else 0)) else 0) := by
  by_cases hne : ∃ k, p k
  · obtain ⟨k, hk⟩ := hne
    obtain ⟨r, hr⟩ := fold_max_real p g k hk
    rw [hr] at hM
    subst hM
    have hden : ∀ c : ℝ, (∑ k with p k, Ideal.exp ((g k : EReal) - (c : EReal)))
        = ((∑ k with p k, Real.exp (g k - c) : ℝ) : EReal) := by
      intro c
      rw [coe_sum_real]
      exact Finset.sum_congr rfl fun n _ => by rw [← EReal.coe_sub, Ideal.exp_coe]
    have hpos : ∀ c : ℝ, 0 < ∑ k with p k, Real.exp (g k - c) := fun c =>
      Finset.sum_pos (fun _ _ => Real.exp_pos _) ⟨k, by simp [hk]⟩
    have hsum : (∑ n, (if p n then Ideal.exp ((g n : EReal) - (sh : EReal)) else 0))
        = ((∑ k with p k, Real.exp (g k - sh) : ℝ) : EReal) := by
      rw [← hden sh, Finset.sum_filter]
    have hnum : (∑ n, (if p n then Ideal.exp ((g n : EReal) - (sh : EReal)) else 0) * h n)
        = ∑ n with p n, h n * ((Real.exp (g n - sh) : ℝ) : EReal) := by
      rw [Finset.sum_filter]
      refine Finset.sum_congr rfl fun n _ => ?_
      by_cases hp : p n
      · rw [if_pos hp, if_pos hp, ← EReal.coe_sub, Ideal.exp_coe, mul_comm]
      · rw [if_neg hp, if_neg hp, zero_mul]
    rw [hsum, hnum, hden r, if_pos (by exact_mod_cast hpos sh), Ideal.div_coe (hpos sh).ne', one_mul,
      sum_mul_real _ _ (fun n _ => mul_nonneg (hh n) (by exact_mod_cast (Real.exp_pos _).le))]
    refine Finset.sum_congr rfl fun n _ => ?_
    rw [Ideal.div_coe (hpos r).ne', ← EReal.coe_sub, Ideal.exp_coe, mul_assoc, ← EReal.coe_mul, ← EReal.coe_mul]
    congr 2
    have hscale : ∀ j, Real.exp (g j - r) = Real.exp (g j - sh) * Real.exp (sh - r) := fun j => by
      rw [← Real.exp_add]; congr 1; ring
    have hD : (∑ k with p k, Real.exp (g k - r)) = (∑ k with p k, Real.exp (g k - sh)) * Real.exp (sh - r) := by
      rw [Finset.sum_mul]; exact Finset.sum_congr rfl fun j _ => hscale j
    rw [hD, hscale n]
    have := (hpos sh).ne'
    have := (Real.exp_pos (sh - r)).ne'
    field_simp
  · have hno : ∀ n, ¬ p n := fun n hn => hne ⟨n, hn⟩
    simp [hno]

end Cert.Attn
-- ==== Proof.Spec.lean ====
/- The attention pooling as plain formulas on the extended reals, one number at a time. Both programs are read as these. -/
module
public import proofs.«01_k».proof.Proof.Softmax

@[expose] public section

noncomputable section

namespace Cert.Attn

open Idealize.ShloMosaic

/-- Hidden unit `d` of a node with features `x`: the rectified linear layer. -/
def hid (x : Fin 128 → EReal) (wh : Fin 512 → Fin 128 → EReal) (bh : Fin 512 → EReal) (d : Fin 512) : EReal :=
  max (∑ k, x k * wh d k + bh d) 0

/-- A linear layer of 512 inputs, at one output. -/
def lin (h : Fin 512 → EReal) (w : Fin 512 → EReal) (b : EReal) : EReal := ∑ d, h d * w d + b

/-- One gated attention unit: the hyperbolic tangent of one linear layer times the logistic function of another. -/
def unit (ya yb : EReal) : EReal := Ideal.tanh ya * Ideal.div 1 (1 + Ideal.exp (-yb))

/-- The gate score of a node without its bias: the gated units weighted by the last layer. -/
def score (h : Fin 512 → EReal) (wa : Fin 256 → Fin 512 → EReal) (ba : Fin 256 → EReal) (wb : Fin 256 → Fin 512 → EReal)
    (bb : Fin 256 → EReal) (wc : Fin 256 → EReal) : EReal :=
  ∑ j, unit (lin h (wa j) (ba j)) (lin h (wb j) (bb j)) * wc j

/-- Hidden units are not negative. -/
theorem hid_nonneg (x : Fin 128 → EReal) (wh : Fin 512 → Fin 128 → EReal) (bh : Fin 512 → EReal) (d : Fin 512) :
    0 ≤ hid x wh bh d := le_max_right _ _

/-- A gated unit is a real number whatever its arguments are. -/
theorem unit_real (ya yb : EReal) : ∃ r : ℝ, unit ya yb = (r : EReal) := by
  obtain ⟨a, ha⟩ := tanh_real ya
  obtain ⟨b, hb⟩ := logistic_real yb
  exact ⟨a * b, by rw [unit, ha, hb, EReal.coe_mul]⟩

/-- With a finite last layer the score is a real number. -/
theorem score_real (h : Fin 512 → EReal) (wa : Fin 256 → Fin 512 → EReal) (ba : Fin 256 → EReal)
    (wb : Fin 256 → Fin 512 → EReal) (bb : Fin 256 → EReal) (wc : Fin 256 → EReal)
    (hw : ∀ j, ∃ r : ℝ, wc j = (r : EReal)) : ∃ r : ℝ, score h wa ba wb bb wc = (r : EReal) := by
  refine sum_real _ _ fun j => ?_
  obtain ⟨a, ha⟩ := unit_real (lin h (wa j) (ba j)) (lin h (wb j) (bb j))
  obtain ⟨b, hb⟩ := hw j
  exact ⟨a * b, by rw [ha, hb, EReal.coe_mul]⟩

end Cert.Attn
-- ==== Proof.RefValue.lean ====
/- The reference's arrays read at an index. -/
module
public import proofs.«01_k».proof.Proof.RefForm
public import proofs.«01_k».proof.Proof.Spec
public import Idealize.ShloMosaic.Lib.Pointwise
public import Idealize.ShloMosaic.Lib.Pointwise.IndexBridge
public import Idealize.ShloMosaic.Lib.Routing.OpsSet

@[expose] public section

set_option maxRecDepth 16384

noncomputable section

namespace Cert.RefForm

open Cert.ReferenceIdeal Cert.ReferenceIdeal.Gen Idealize.ShloMosaic Idealize.ShloMosaic.TcCoe Idealize.SL.Sem
open Cert.Attn

/-- A selection on the equality of two words. -/
theorem cmpi_eq_select {α : Type} (a b : BitVec 32) (x y : α) :
    Scalar.select (IntOp.cmpi .eq a b) x y = if a = b then x else y := by
  by_cases h : a = b
  · simp [Scalar.select, IntOp.cmpi, h]
  · simp [Scalar.select, IntOp.cmpi, h, beq_eq_false_iff_ne.2 h]

/-- A word read as a signed number is a small natural number exactly when it is that number's word. -/
theorem toInt_eq_small (a : BitVec 32) (s : Fin 16) : a.toInt = (s.val : Int) ↔ a = BitVec.ofNat 32 s.val := by
  have hs := s.isLt
  constructor
  · intro h
    apply BitVec.eq_of_toInt_eq
    rw [h, StableHlo.Predicate.toInt_ofNat_small _ (by omega)]
  · rintro rfl
    exact StableHlo.Predicate.toInt_ofNat_small _ (by omega)

/-- The hidden layer at a node and a unit. -/
theorem hidA_at (x : FVec Ideal S100000x128 .f32) (wh : FVec Ideal S512x128 .f32) (bh : FVec Ideal S512 .f32)
    (n : Fin 100000) (d : Fin 512) :
    hidA x wh bh (ix2 n d) = hid (fun k => x (ix2 n k)) (fun d k => wh (ix2 d k)) (fun d => bh (ix1 d)) d := by
  pointwise [hidA, hid]

/-- A linear layer on the hidden rows at a node and a unit. -/
theorem linA_at (h : FVec Ideal S100000x512 .f32) (w : FVec Ideal S256x512 .f32) (b : FVec Ideal S256 .f32)
    (n : Fin 100000) (j : Fin 256) :
    linA h w b (ix2 n j) = lin (fun d => h (ix2 n d)) (fun d => w (ix2 j d)) (b (ix1 j)) := by
  pointwise [linA, lin]

/-- The gated unit at a node: a hyperbolic tangent times a logistic function. -/
theorem unitA_at (ya yb : FVec Ideal S100000x256 .f32) (n : Fin 100000) (j : Fin 256) :
    unitA ya yb (ix2 n j) = unit (ya (ix2 n j)) (yb (ix2 n j)) := by
  pointwise [unitA, unit]

/-- The gate score of a node: the weighted sum of its gated units, plus the bias. -/
theorem gateA_at (u : FVec Ideal S100000x256 .f32) (wc : FVec Ideal S1x256 .f32) (bc : FVec Ideal S1 .f32) (n : Fin 100000) :
    gateA u wc bc (ix1 n) = ∑ j : Fin 256, u (ix2 n j) * wc (ix2 0 j) + bc (ix1 0) := by
  pointwise [gateA]

/-- The maximum of the gate scores over the nodes of a segment, from minus infinity. -/
theorem maxA_at (g : FVec Ideal S100000 .f32) (bt : IVec S100000 32) (s : Fin 16) :
    maxA g bt (ix1 s) = Finset.univ.fold max ⊥ (fun n : Fin 100000 => if bt (ix1 n) = BitVec.ofNat 32 s.val then g (ix1 n) else ⊥) := by
  pointwise [maxA]
  have hinit : Ideal.ofBits .f32 0xFF800000#32 = ⊥ := by simp [Ideal.ofBits, Ideal.ieee]
  have hrest : (id (constant (F := Ideal) S_ .f32 0xFF800000#32) : FVec Ideal S_ .f32) ix0 = ⊥ := hinit
  rw [hinit]
  refine congrArg (fun f => Finset.fold max ⊥ f Finset.univ) (funext fun n => ?_)
  rw [hrest, cmpi_eq_select]

/-- The classifier at a segment and a class. -/
theorem clsA_at (p : FVec Ideal S16x512 .f32) (w : FVec Ideal S4x512 .f32) (b : FVec Ideal S4 .f32) (s : Fin 16) (k : Fin 4) :
    clsA p w b (ix2 s k) = ∑ d : Fin 512, p (ix2 s d) * w (ix2 k d) + b (ix1 k) := by
  pointwise [clsA]

/-- A segment id in range is not changed by the wrap of negative ids. -/
theorem wrapA_at (bt : IVec S100000 32) (n : Fin 100000) (s : Fin 16) (h : bt (ix1 n) = BitVec.ofNat 32 s.val) :
    wrapA bt (ix2 n 0) = BitVec.ofNat 32 s.val := by
  pointwise [wrapA]
  rw [Routing.wrap_of_lt _ _ (by rw [h, BitVec.toNat_ofNat]; omega), h]

/-- The column of segment ids at a node. -/
theorem colA_at (bt : IVec S100000 32) (n : Fin 100000) :
    colA bt (ix2 n 0) = bt (ix1 n) := by
  pointwise [colA]

/-- Reading an entry of a table of segments at a node of segment `s`. -/
theorem gather_at (t : FVec Ideal S16 .f32) (bt : IVec S100000 32) (n : Fin 100000) (s : Fin 16)
    (h : bt (ix1 n) = BitVec.ofNat 32 s.val) :
    Host.gather gather_S16_S100000x1_S100000_n_0_n_n_0_1_1 t (wrapA bt) (ix1 n) = t (ix1 s) := by
  rw [ix1_eq_valueIdx, ix1_eq_valueIdx]
  refine Routing.gather_take1 (N := 16) (n := 100000) gather_S16_S100000x1_S100000_n_0_n_n_0_1_1 rfl rfl rfl rfl t (wrapA bt) n s ?_ (by norm_num)
  rw [← ix2_eq_valueIdx]
  exact wrapA_at bt n s h

/-- The start of the update of node `n` in the scatter over segments is the node's segment number. -/
theorem start1 (bt : IVec S100000 32) (n : Fin 100000) :
    scatter_S16_S100000x1_S100000_n_0_0_1.start (ix1 n) (colA bt) 0 = (bt (ix1 n)).toInt := by
  refine (dif_pos (List.mem_singleton.2 rfl)).trans ?_
  rw [← colA_at bt n]
  refine congrArg (fun i => (colA bt i).toInt) (funext fun b => ?_)
  match b with
  | ⟨0, _⟩ => rfl
  | ⟨1, _⟩ => rfl

/-- The segment sums at a segment: the numbers of its nodes, added. -/
theorem denA_at (e : FVec Ideal S100000 .f32) (bt : IVec S100000 32) (s : Fin 16) :
    denA e bt (ix1 s) = ∑ n : Fin 100000 with bt (ix1 n) = BitVec.ofNat 32 s.val, e (ix1 n) := by
  show Ideal.hostScatterAdd _ _ _ _ _ = _
  unfold Ideal.hostScatterAdd
  rw [Finset.sum_filter, sum_idx1, Finset.sum_filter]
  have h0 : (broadcastInDim S16 ![] bcast_S_S16 (constant S_ .f32 0x00000000#32) : FVec Ideal S16 .f32) (ix1 s) = 0 := by
    pointwise
  rw [h0, zero_add]
  refine Finset.sum_congr rfl fun n _ => if_congr ?_ rfl rfl
  rw [ix1_eq_valueIdx s, Routing.resultIdx?_ix1 (N := 16), start1]
  have e0 : scatter_S16_S100000x1_S100000_n_0_0_1.window (ix1 n) 0 = 0 := rfl
  rw [e0, ← toInt_eq_small]
  simp

/-- The start of the update of node `n` in the scatter of rows. -/
theorem start2 (bt : IVec S100000 32) (n : Fin 100000) (d : Fin 512) :
    scatter_S16x512_S100000x1_S100000x512_1_0_0_1.start (ix2 n d) (colA bt) 0 = (bt (ix1 n)).toInt := by
  refine (dif_pos (List.mem_singleton.2 rfl)).trans ?_
  rw [← colA_at bt n]
  refine congrArg (fun i => (colA bt i).toInt) (funext fun b => ?_)
  match b with
  | ⟨0, _⟩ => rfl
  | ⟨1, _⟩ => rfl

/-- The pooled row of a segment: its nodes' hidden rows times their weights, added. -/
theorem poolA_at (h : FVec Ideal S100000x512 .f32) (w : FVec Ideal S100000 .f32) (bt : IVec S100000 32) (s : Fin 16)
    (d : Fin 512) :
    poolA h w bt (ix2 s d) = ∑ n : Fin 100000 with bt (ix1 n) = BitVec.ofNat 32 s.val, h (ix2 n d) * w (ix1 n) := by
  show Ideal.hostScatterAdd _ _ _ _ _ = _
  unfold Ideal.hostScatterAdd
  rw [Finset.sum_filter, sum_idx2, Finset.sum_filter]
  have h0 : (broadcastInDim S16x512 ![] bcast_S_S16x512 (constant S_ .f32 0x00000000#32) : FVec Ideal S16x512 .f32) (ix2 s d) = 0 := by
    pointwise
  rw [h0, zero_add]
  refine Finset.sum_congr rfl fun n _ => ?_
  have hcond : ∀ d' : Fin 512, scatter_S16x512_S100000x1_S100000x512_1_0_0_1.resultIdx? (ix2 n d') (colA bt) = some (ix2 s d)
      ↔ bt (ix1 n) = BitVec.ofNat 32 s.val ∧ d' = d := by
    intro d'
    rw [ix2_eq_valueIdx s, Routing.resultIdx?_ix2 (R := 16) (C := 512), start2, ← toInt_eq_small]
    have e0 : scatter_S16x512_S100000x1_S100000x512_1_0_0_1.window (ix2 n d') 0 = 0 := rfl
    have e1 : scatter_S16x512_S100000x1_S100000x512_1_0_0_1.window (ix2 n d') 1 = d'.val := rfl
    have e2 : scatter_S16x512_S100000x1_S100000x512_1_0_0_1.start (ix2 n d') (colA bt) 1 = 0 := rfl
    rw [e0, e1, e2, Fin.ext_iff]
    omega
  simp only [hcond]
  by_cases hb : bt (ix1 n) = BitVec.ofNat 32 s.val
  · simp only [hb, true_and, Finset.sum_ite_eq', Finset.mem_univ, if_true]
    pointwise
  · simp [hb]

/-- The shifted exponential of a node of segment `s`. -/
theorem expA_at (g : FVec Ideal S100000 .f32) (bt : IVec S100000 32) (n : Fin 100000) (s : Fin 16)
    (h : bt (ix1 n) = BitVec.ofNat 32 s.val) :
    expA g bt (ix1 n) = Ideal.exp (g (ix1 n) - maxA g bt (ix1 s)) := by
  rw [← gather_at (maxA g bt) bt n s h]
  pointwise [expA]

/-- The softmax weight of a node of segment `s`. -/
theorem weightA_at (e : FVec Ideal S100000 .f32) (bt : IVec S100000 32) (n : Fin 100000) (s : Fin 16)
    (h : bt (ix1 n) = BitVec.ofNat 32 s.val) :
    weightA e bt (ix1 n) = Ideal.div (e (ix1 n)) (denA e bt (ix1 s)) := by
  rw [← gather_at (denA e bt) bt n s h]
  pointwise [weightA]

/-- The pooled row of a segment with softmax weights of gate scores `g`. -/
theorem pooled_at (h : FVec Ideal S100000x512 .f32) (g : FVec Ideal S100000 .f32) (bt : IVec S100000 32) (s : Fin 16)
    (d : Fin 512) :
    poolA h (weightA (expA g bt) bt) bt (ix2 s d)
      = ∑ n : Fin 100000 with bt (ix1 n) = BitVec.ofNat 32 s.val,
          h (ix2 n d) * Ideal.div (Ideal.exp (g (ix1 n) - maxA g bt (ix1 s)))
            (∑ k : Fin 100000 with bt (ix1 k) = BitVec.ofNat 32 s.val, Ideal.exp (g (ix1 k) - maxA g bt (ix1 s))) := by
  rw [poolA_at]
  refine Finset.sum_congr rfl fun n hn => ?_
  have hn' := (Finset.mem_filter.1 hn).2
  rw [weightA_at _ bt n s hn', denA_at, expA_at g bt n s hn']
  refine congrArg (fun z => h (ix2 n d) * Ideal.div (Ideal.exp (g (ix1 n) - maxA g bt (ix1 s))) z) ?_
  exact Finset.sum_congr rfl fun k hk => expA_at g bt k s (Finset.mem_filter.1 hk).2

/-- The gate score of a node: the score of its hidden units, and the bias. -/
theorem gate_at (x : FVec Ideal S100000x128 .f32) (wh : FVec Ideal S512x128 .f32) (bh : FVec Ideal S512 .f32)
    (wa : FVec Ideal S256x512 .f32) (ba : FVec Ideal S256 .f32) (wb : FVec Ideal S256x512 .f32) (bb : FVec Ideal S256 .f32)
    (wc : FVec Ideal S1x256 .f32) (bc : FVec Ideal S1 .f32) (n : Fin 100000) :
    gateA (unitA (linA (hidA x wh bh) wa ba) (linA (hidA x wh bh) wb bb)) wc bc (ix1 n)
      = score (hid (fun k => x (ix2 n k)) (fun d k => wh (ix2 d k)) (fun d => bh (ix1 d)))
          (fun j d => wa (ix2 j d)) (fun j => ba (ix1 j)) (fun j d => wb (ix2 j d)) (fun j => bb (ix1 j))
          (fun j => wc (ix2 0 j)) + bc (ix1 0) := by
  rw [gateA_at]
  simp only [unitA_at, linA_at, hidA_at, score]

end Cert.RefForm
-- ==== Proof.KernelTile.lean ====
/- The kernel's block computations read at an index. -/
module
public import proofs.«01_k».proof.Proof.Gen.KernelIdeal.Value
public import proofs.«01_k».proof.Proof.Spec
public import proofs.«01_k».proof.Proof.Softmax
public import Idealize.ShloMosaic.Lib.Pointwise
public import Idealize.ShloMosaic.Lib.Pipeline.ValueKit

@[expose] public section

set_option maxRecDepth 16384

noncomputable section

namespace Cert.KernelTile

open Cert.KernelIdeal Cert.KernelIdeal.Gen Idealize.ShloMosaic Idealize.ShloMosaic.TcCoe Idealize.SL.Sem
open Cert.Attn

/-- A selection on the equality of two words. -/
theorem select_word_eq {α : Type} (a b : BitVec 32) (x y : α) :
    Scalar.select (IntOp.cmpi .eq a b) x y = if a = b then x else y := by
  by_cases h : a = b
  · simp [Scalar.select, IntOp.cmpi, h]
  · simp [Scalar.select, IntOp.cmpi, h, beq_eq_false_iff_ne.2 h]

/-- The float word of one half. -/
theorem word_half : Ideal.ofBits .f32 0x3F000000#32 = ((1 / 2 : ℝ) : EReal) := by
  simp [Ideal.ofBits, Ideal.ieee, -EReal.coe_mul]; norm_num

/-- The hidden block at a row and a unit. -/
theorem pay7_at (v3 : Vec Ideal S4000x128 .f32) (v4 : Vec Ideal S512x128 .f32) (v6 : Vec Ideal S1x512 .f32)
    (l : Fin 4000) (d : Fin 512) :
    k0_pay7 v3 v4 v6 (ix2 l d)
      = hid (fun k => v3 (ix2 l k)) (fun d k => v4 (ix2 d k)) (fun d => v6 (ix2 0 d)) d := by
  pointwise [k0_pay7, hid]

/-- The row of gate scores at a row of the tile. -/
theorem pay8_at (v3 : Vec Ideal S4000x128 .f32) (v4 : Vec Ideal S512x128 .f32) (v6 : Vec Ideal S1x512 .f32)
    (v12 v14 : Vec Ideal S256x512 .f32) (v17 : Vec Ideal S1x512 .f32) (v32 : Vec Ideal S1x256 .f32) (l : Fin 4000) :
    k0_pay8 v3 v4 v6 v12 v14 v17 v32 (ix2 0 l)
      = score (hid (fun k => v3 (ix2 l k)) (fun d k => v4 (ix2 d k)) (fun d => v6 (ix2 0 d)))
          (fun j d => v12 (ix2 j d)) (fun j => v17 (ix2 0 ⟨j.val, by omega⟩))
          (fun j d => v14 (ix2 j d)) (fun j => v17 (ix2 0 ⟨256 + j.val, by omega⟩)) (fun j => v32 (ix2 0 j)) := by
  pointwise [k0_pay8]
  unfold score unit lin
  refine Finset.sum_congr rfl fun j _ => ?_
  rw [word_half, half_tanh_eq_logistic, mul_comm (v32 (ix2 0 j))]
  simp only [pay7_at]

/-- The masked exponentials at a segment and a row. -/
theorem pay1_at (v33 : FVec Ideal S1x4000 .f32) (v34 : Vec Ideal S1x1 .f32) (v39 : Vec Ideal S1x1x4000 .i32)
    (s : Fin 16) (l : Fin 4000) :
    k0_pay1 v33 v34 v39 (ix2 s l)
      = if v39 (ix3 0 0 l) = BitVec.ofNat 32 s.val then Ideal.exp (v33 (ix2 0 l) + v34 (ix2 0 0)) else 0 := by
  pointwise [k0_pay1]
  exact select_word_eq _ _ _ _

/-- The weight accumulator after a tile. -/
theorem pay2_at (v33 : FVec Ideal S1x4000 .f32) (v34 : Vec Ideal S1x1 .f32) (v39 : Vec Ideal S1x1x4000 .i32)
    (v51 : Vec Ideal S16x1 .f32) (s : Fin 16) :
    k0_pay2 v33 v34 v39 v51 (ix2 s 0) = v51 (ix2 s 0) + ∑ l : Fin 4000, k0_pay1 v33 v34 v39 (ix2 s l) := by
  pointwise [k0_pay2]

/-- The pooled accumulator after a tile. -/
theorem pay3_at (v11 : FVec Ideal S4000x512 .f32) (v33 : FVec Ideal S1x4000 .f32) (v34 : Vec Ideal S1x1 .f32)
    (v39 : Vec Ideal S1x1x4000 .i32) (v56 : Vec Ideal S16x512 .f32) (s : Fin 16) (d : Fin 512) :
    k0_pay3 v11 v33 v34 v39 v56 (ix2 s d)
      = v56 (ix2 s d) + ∑ l : Fin 4000, k0_pay1 v33 v34 v39 (ix2 s l) * v11 (ix2 l d) := by
  pointwise [k0_pay3]

/-- The result from the final accumulators. -/
theorem pay4_at (v64 : Vec Ideal S16x1 .f32) (v71 : Vec Ideal S16x512 .f32) (v74 : Vec Ideal S4x512 .f32)
    (v76 : Vec Ideal S1x4 .f32) (s : Fin 16) (k : Fin 4) :
    k0_pay4 v64 v71 v74 v76 (ix2 s k)
      = ∑ d : Fin 512, v71 (ix2 s d) * (if 0 < v64 (ix2 s 0) then Ideal.div 1 (v64 (ix2 s 0)) else 0) * v74 (ix2 k d)
        + v76 (ix2 0 k) := by
  pointwise [k0_pay4]

/-- The weight accumulator's start is zero. -/
theorem pay5_at (s : Fin 16) : (k0_pay5 : FVec Ideal S16x1 .f32) (ix2 s 0) = 0 := by
  pointwise [k0_pay5]

/-- The pooled accumulator's start is zero. -/
theorem pay6_at (s : Fin 16) (d : Fin 512) : (k0_pay6 : FVec Ideal S16x512 .f32) (ix2 s d) = 0 := by
  pointwise [k0_pay6]

end Cert.KernelTile
-- ==== Proof.KernelStep.lean ====
/- What each grid point leaves in the kernel's accumulators and in its result block. -/
module
public import proofs.«01_k».proof.Proof.Gen.KernelIdeal.Value
public import proofs.«01_k».proof.Proof.KernelTile
public import Idealize.ShloMosaic.Lib.Pipeline.ReadBack

@[expose] public section

set_option maxRecDepth 16384

noncomputable section

namespace Cert.KernelStep

open Cert.KernelIdeal Cert.KernelIdeal.Gen Idealize.ShloMosaic Idealize.ShloMosaic.TcCoe Idealize.SL.Sem

variable (m : (ℓ : Loc nD τ sig) → Buf (Elt Ideal) ℓ)

/-- The hidden block of the tile at point `t`. -/
def hidT (c : Dev nD) (t : Fin cfg0.N) : FVec Ideal S4000x512 .f32 :=
  k0_pay7 (iblk m c 0 t) (iblk m c 2 t) (iblk m c 3 t)

/-- The row of gate scores of the tile at point `t`. -/
def gateT (c : Dev nD) (t : Fin cfg0.N) : FVec Ideal S1x4000 .f32 :=
  k0_pay8 (iblk m c 0 t) (iblk m c 2 t) (iblk m c 3 t) (iblk m c 4 t) (iblk m c 5 t) (iblk m c 6 t) (iblk m c 7 t)

/-- The masked exponentials of the tile at point `t`. -/
def expT (c : Dev nD) (t : Fin cfg0.N) : FVec Ideal S16x4000 .f32 :=
  k0_pay1 (gateT m c t) (iblk m c 8 t) (iblk m c 1 t)

/-- The weight accumulator after the first point: its tile's row sums over zero. -/
theorem den_first (c : Dev nD) (t : Fin cfg0.N) (h : t.val % 25 = 0) :
    (outsAt0 m c t.val t.isLt).2.1
      = k0_pay2 (gateT m c t) (iblk m c 8 t) (iblk m c 1 t) (k0_pay5 (F := Ideal)) := by
  rw [outsAt0_A m c t h (by omega)]
  frame_out
  rfl

/-- The pooled accumulator after the first point: its tile's products over zero. -/
theorem pool_first (c : Dev nD) (t : Fin cfg0.N) (h : t.val % 25 = 0) :
    (outsAt0 m c t.val t.isLt).2.2
      = k0_pay3 (hidT m c t) (gateT m c t) (iblk m c 8 t) (iblk m c 1 t) (k0_pay6 (F := Ideal)) := by
  rw [outsAt0_A m c t h (by omega)]
  frame_out
  rfl

/-- The weight accumulator after a later point: its tile's row sums over what was there. -/
theorem den_next (c : Dev nD) (t : Fin cfg0.N) (h : ¬ t.val % 25 = 0) :
    (outsAt0 m c t.val t.isLt).2.1 = k0_pay2 (gateT m c t) (iblk m c 8 t) (iblk m c 1 t)
      (outsAt0 m c (t.val - 1) (Nat.lt_of_le_of_lt (Nat.sub_le _ _) t.isLt)).2.1 := by
  by_cases h1 : t.val % 25 = 24
  · rw [outsAt0_C m c t h h1]
    frame_out
    simp only [read_unread_whole]
    rfl
  · rw [outsAt0_B m c t h h1]
    frame_out
    simp only [read_unread_whole]
    rfl

/-- The pooled accumulator after a later point: its tile's products over what was there. -/
theorem pool_next (c : Dev nD) (t : Fin cfg0.N) (h : ¬ t.val % 25 = 0) :
    (outsAt0 m c t.val t.isLt).2.2 = k0_pay3 (hidT m c t) (gateT m c t) (iblk m c 8 t) (iblk m c 1 t)
      (outsAt0 m c (t.val - 1) (Nat.lt_of_le_of_lt (Nat.sub_le _ _) t.isLt)).2.2 := by
  by_cases h1 : t.val % 25 = 24
  · rw [outsAt0_C m c t h h1]
    frame_out
    simp only [read_unread_whole]
    rfl
  · rw [outsAt0_B m c t h h1]
    frame_out
    simp only [read_unread_whole]
    rfl

/-- The result block at the last point, from the accumulators that point leaves. -/
theorem out_last (c : Dev nD) (t : Fin cfg0.N) (h : t.val % 25 = 24) :
    (outsAt0 m c t.val t.isLt).1
      = k0_pay4 (outsAt0 m c t.val t.isLt).2.1 (outsAt0 m c t.val t.isLt).2.2 (iblk m c 9 t) (iblk m c 10 t) := by
  rw [outsAt0_C m c t (by omega) h]
  frame_out

end Cert.KernelStep
-- ==== Proof.KernelBlocks.lean ====
/- The kernel's input blocks read at an index of the argument arrays. -/
module
public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.KernelBlocks

open Cert.KernelIdeal Cert.KernelIdeal.Gen Idealize.ShloMosaic Idealize.ShloMosaic.TcCoe Idealize.SL.Sem

variable (m : (ℓ : Loc nD τ sig) → Buf (Elt Ideal) ℓ)

/-- Each window's block index at a point: the tile windows follow the point, the others stay at their one block. -/
theorem idx (t : Fin cfg0.N) :
    (win0_0.index t 0 = t.val ∧ win0_0.index t 1 = 0)
    ∧ (win0_1.index t 0 = t.val ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) := by
  revert t; decide +kernel

/-- A tile's row is a node. -/
theorem node_lt (t : Fin cfg0.N) (l : Fin 4000) : t.val * 4000 + l.val < 100000 := by
  have h1 := lt_of_lt_of_eq t.isLt (show cfg0.N = 25 from N_0); have h2 := l.isLt; omega

/-- The feature tile's rows are the nodes' feature rows. -/
theorem x_at (c : Dev nD) (t : Fin cfg0.N) (l : Fin 4000) (k : Fin 128) :
    iblk m c 0 t (ix2 l k) = m ((c : Thread nD τ).loc main_arg0) (ix2 ⟨t.val * 4000 + l.val, node_lt t l⟩ k) := by
  blk_ext [iblk, V, idx t]

/-- The head weights' block is the array. -/
theorem wh_at (c : Dev nD) (t : Fin cfg0.N) (d : Fin 512) (k : Fin 128) :
    iblk m c 2 t (ix2 d k) = m ((c : Thread nD τ).loc main_arg3) (ix2 d k) := by
  blk_ext [iblk, V, idx t]

/-- The first gate layer's weights. -/
theorem wa_at (c : Dev nD) (t : Fin cfg0.N) (j : Fin 256) (d : Fin 512) :
    iblk m c 4 t (ix2 j d) = m ((c : Thread nD τ).loc main_arg5) (ix2 j d) := by
  blk_ext [iblk, V, idx t]

/-- The second gate layer's weights. -/
theorem wb_at (c : Dev nD) (t : Fin cfg0.N) (j : Fin 256) (d : Fin 512) :
    iblk m c 5 t (ix2 j d) = m ((c : Thread nD τ).loc main_arg7) (ix2 j d) := by
  blk_ext [iblk, V, idx t]

/-- The last gate layer's weights. -/
theorem wc_at (c : Dev nD) (t : Fin cfg0.N) (j : Fin 256) :
    iblk m c 7 t (ix2 0 j) = m ((c : Thread nD τ).loc main_arg9) (ix2 0 j) := by
  blk_ext [iblk, V, idx t]

/-- The classifier's weights. -/
theorem wcls_at (c : Dev nD) (t : Fin cfg0.N) (k : Fin 4) (d : Fin 512) :
    iblk m c 9 t (ix2 k d) = m ((c : Thread nD τ).loc main_arg11) (ix2 k d) := by
  blk_ext [iblk, V, idx t]

/-- The head bias as the host lays it out. -/
theorem V_bh (c : Dev nD) : (V m c main_call0_v3 : Vec Ideal S1x512 .f32)
    = broadcastInDim S1x512 ![1] bcast_S512_S1x512_1 (m ((c : Thread nD τ).loc main_arg4) : Vec Ideal S512 .f32) := by
  entry_read
  rfl

/-- The segment ids as the host lays them out. -/
theorem V_brow (c : Dev nD) : (V m c main_call0_v0 : Vec Ideal S25x1x4000 .i32)
    = shapeCast S25x1x4000 (m ((c : Thread nD τ).loc main_arg2) : Vec Ideal S100000 .i32)
        shapeCasts_S100000_S25x1x4000 := by
  entry_read
  rfl

/-- The two gate biases as the host joins them. -/
theorem V_bab (c : Dev nD) : (V m c main_call0_v2 : Vec Ideal S1x512 .f32)
    = broadcastInDim S1x512 ![1] bcast_S512_S1x512_1
        (concatenate S512 0 [⟨S256, (m ((c : Thread nD τ).loc main_arg6) : Vec Ideal S256 .f32)⟩,
          ⟨S256, (m ((c : Thread nD τ).loc main_arg8) : Vec Ideal S256 .f32)⟩] concatenates_S256_S256_S512_d0) := by
  entry_read
  rfl

/-- The classifier's bias as the host lays it out. -/
theorem V_bcls (c : Dev nD) : (V m c main_call0_v12 : Vec Ideal S1x4 .f32)
    = broadcastInDim S1x4 ![1] bcast_S4_S1x4_1 (m ((c : Thread nD τ).loc main_arg12) : Vec Ideal S4 .f32) := by
  entry_read
  rfl

/-- The host's shifted gate bias as a function of the bias and the last gate layer's weights. -/
def shiftA (b : FVec Ideal S1 .f32) (w : FVec Ideal S1x256 .f32) : FVec Ideal S1x1 .f32 :=
  broadcastInDim S1x1 ![1] bcast_S1_S1x1_1
    (subf (F := Ideal) b
      (broadcastInDim S1 ![] bcast_S_S1
        (addf (F := Ideal)
          (Host.reduceAdd (Host.absf w) (constant S_ .f32 0x00000000#32) reducesTo_S1x256_S_d0_1 h_S_)
          (Host.absf (shapeCast S_ b shapeCasts_S1_S_)))))

/-- The shifted gate bias as the host computes it. -/
theorem V_bcs (c : Dev nD) : (V m c main_call0_v11 : Vec Ideal S1x1 .f32)
    = shiftA (m ((c : Thread nD τ).loc main_arg10)) (m ((c : Thread nD τ).loc main_arg9)) := by
  entry_read
  rfl

/-- The head bias as a row. -/
theorem bh_at (c : Dev nD) (t : Fin cfg0.N) (d : Fin 512) :
    iblk m c 3 t (ix2 0 d) = m ((c : Thread nD τ).loc main_arg4) (ix1 d) := by
  have e : iblk m c 3 t (ix2 0 d) = V m c main_call0_v3 (ix2 0 d) := by
    blk_ext [iblk, idx t]
  rw [e, V_bh]
  pointwise []

/-- The segment ids, one row of them for each tile. -/
theorem brow_at (c : Dev nD) (t : Fin cfg0.N) (l : Fin 4000) :
    iblk m c 1 t (ix3 0 0 l) = m ((c : Thread nD τ).loc main_arg2) (ix1 ⟨t.val * 4000 + l.val, node_lt t l⟩) := by
  have ht : t.val < 25 := lt_of_lt_of_eq t.isLt (show cfg0.N = 25 from N_0)
  have e : iblk m c 1 t (ix3 0 0 l) = V m c main_call0_v0 (ix3 ⟨t.val, ht⟩ 0 l) := by
    blk_ext [iblk, idx t]
  rw [e, V_brow]
  pointwise []

/-- The first half of the joined gate biases. -/
theorem ba_at (c : Dev nD) (t : Fin cfg0.N) (j : Fin 256) :
    iblk m c 6 t (ix2 0 ⟨j.val, by omega⟩) = m ((c : Thread nD τ).loc main_arg6) (ix1 j) := by
  have e : iblk m c 6 t (ix2 0 ⟨j.val, by omega⟩) = V m c main_call0_v2 (ix2 0 ⟨j.val, by omega⟩) := by
    blk_ext [iblk, idx t]
  rw [e, V_bab]
  pointwise []

/-- The second half of the joined gate biases. -/
theorem bb_at (c : Dev nD) (t : Fin cfg0.N) (j : Fin 256) :
    iblk m c 6 t (ix2 0 ⟨256 + j.val, by omega⟩) = m ((c : Thread nD τ).loc main_arg8) (ix1 j) := by
  have e : iblk m c 6 t (ix2 0 ⟨256 + j.val, by omega⟩) = V m c main_call0_v2 (ix2 0 ⟨256 + j.val, by omega⟩) := by
    blk_ext [iblk, idx t]
  rw [e, V_bab]
  pointwise []

/-- The classifier's bias as a row. -/
theorem bcls_at (c : Dev nD) (t : Fin cfg0.N) (k : Fin 4) :
    iblk m c 10 t (ix2 0 k) = m ((c : Thread nD τ).loc main_arg12) (ix1 k) := by
  have e : iblk m c 10 t (ix2 0 k) = V m c main_call0_v12 (ix2 0 k) := by
    blk_ext [iblk, idx t]
  rw [e, V_bcls]
  pointwise []

/-- The gate bias `b` less the magnitudes of the weights `w` and of the bias itself. -/
def shifted (w : Fin 256 → EReal) (b : EReal) : EReal := b - (∑ j, max (w j) (-w j) + max b (-b))

/-- The host's shifted gate bias at its one index. -/
theorem shiftA_at (b : FVec Ideal S1 .f32) (w : FVec Ideal S1x256 .f32) :
    shiftA b w (ix2 0 0) = shifted (fun j => w (ix2 0 j)) (b (ix1 0)) := by
  pointwise [shiftA, shifted]
  rw [Fin.sum_univ_one]
  rfl

/-- The kernel's shifted gate bias is the bias less the magnitudes. -/
theorem bcs_at (c : Dev nD) (t : Fin cfg0.N) :
    iblk m c 8 t (ix2 0 0) = shifted (fun j => m ((c : Thread nD τ).loc main_arg9) (ix2 0 j))
      (m ((c : Thread nD τ).loc main_arg10) (ix1 0)) := by
  have e : iblk m c 8 t (ix2 0 0) = V m c main_call0_v11 (ix2 0 0) := by
    blk_ext [iblk, idx t]
  rw [e, V_bcs]
  exact shiftA_at _ _

end Cert.KernelBlocks
-- ==== Proof.KernelValue.lean ====
/- The kernel's result at an index, as sums over the nodes. -/
module
public import proofs.«01_k».proof.Proof.KernelStep
public import proofs.«01_k».proof.Proof.KernelBlocks

@[expose] public section

set_option maxRecDepth 16384

noncomputable section

namespace Cert.KernelValue

open Cert.KernelIdeal Cert.KernelIdeal.Gen Idealize.ShloMosaic Idealize.ShloMosaic.TcCoe Idealize.SL.Sem
open Cert.Attn Cert.KernelTile Cert.KernelStep Cert.KernelBlocks

variable (m : (ℓ : Loc nD τ sig) → Buf (Elt Ideal) ℓ)

/-- The hidden row of node `n`. -/
def nodeHid (c : Dev nD) (n : Fin 100000) : Fin 512 → EReal :=
  hid (fun k => m ((c : Thread nD τ).loc main_arg0) (ix2 n k)) (fun d k => m ((c : Thread nD τ).loc main_arg3) (ix2 d k))
    (fun d => m ((c : Thread nD τ).loc main_arg4) (ix1 d))

/-- The gate score of node `n`, without the last bias. -/
def nodeScore (c : Dev nD) (n : Fin 100000) : EReal :=
  score (nodeHid m c n)
    (fun j d => m ((c : Thread nD τ).loc main_arg5) (ix2 j d)) (fun j => m ((c : Thread nD τ).loc main_arg6) (ix1 j))
    (fun j d => m ((c : Thread nD τ).loc main_arg7) (ix2 j d)) (fun j => m ((c : Thread nD τ).loc main_arg8) (ix1 j))
    (fun j => m ((c : Thread nD τ).loc main_arg9) (ix2 0 j))

/-- The shifted gate bias. -/
def bias (c : Dev nD) : EReal :=
  shifted (fun j => m ((c : Thread nD τ).loc main_arg9) (ix2 0 j)) (m ((c : Thread nD τ).loc main_arg10) (ix1 0))

/-- The exponential of node `n` when it belongs to segment `s`, else zero. -/
def nodeExp (c : Dev nD) (s : Fin 16) (n : Fin 100000) : EReal :=
  if m ((c : Thread nD τ).loc main_arg2) (ix1 n) = BitVec.ofNat 32 s.val then Ideal.exp (nodeScore m c n + bias m c) else 0

/-- A tile's hidden rows are its nodes' hidden rows. -/
theorem hidT_at (c : Dev nD) (t : Fin cfg0.N) (l : Fin 4000) (d : Fin 512) :
    hidT m c t (ix2 l d) = nodeHid m c ⟨t.val * 4000 + l.val, node_lt t l⟩ d := by
  unfold hidT
  rw [pay7_at]
  simp only [x_at, wh_at, bh_at]
  rfl

/-- A tile's gate scores are its nodes' gate scores. -/
theorem gateT_at (c : Dev nD) (t : Fin cfg0.N) (l : Fin 4000) :
    gateT m c t (ix2 0 l) = nodeScore m c ⟨t.val * 4000 + l.val, node_lt t l⟩ := by
  unfold gateT
  rw [pay8_at]
  simp only [x_at, wh_at, bh_at, wa_at, wb_at, wc_at, ba_at, bb_at]
  rfl

/-- A tile's masked exponentials are its nodes'. -/
theorem expT_at (c : Dev nD) (t : Fin cfg0.N) (s : Fin 16) (l : Fin 4000) :
    expT m c t (ix2 s l) = nodeExp m c s ⟨t.val * 4000 + l.val, node_lt t l⟩ := by
  unfold expT
  rw [pay1_at, gateT_at, brow_at, bcs_at]
  rfl

/-- A sum over tiles and rows is a sum over nodes. -/
theorem sum_nodes (f : Fin 100000 → EReal) :
    (∑ t : Fin cfg0.N, ∑ l : Fin 4000, f ⟨t.val * 4000 + l.val, node_lt t l⟩) = ∑ n, f n :=
  Fin.sum_mul_add_fin cfg0.N 4000 f (by rw [show cfg0.N = 25 from N_0])

/-- The last point of the grid. -/
def tLast : Fin cfg0.N := ⟨24, lt_of_lt_of_eq (by decide) N_0.symm⟩

/-- The weight accumulator at the end: the sum of the masked exponentials. -/
theorem den_at (c : Dev nD) (s : Fin 16) :
    (outsAt0 m c tLast.val tLast.isLt).2.1 (ix2 s 0) = ∑ n, nodeExp m c s n := by
  have e := Pipeline.eq_sum_fin_of_reset_step_apply_last
    (fun n h (s : Fin 16) => ((outsAt0 m c n h).2.1 (ix2 s 0) : EReal)) 25 (fun _ => 0)
    (fun t s => ∑ l : Fin 4000, expT m c t (ix2 s l))
    (fun t h s => by
      rw [show (outsAt0 m c t.val t.isLt).2.1 = _ from den_first m c t h, pay2_at, pay5_at]; rfl)
    (fun t h s => by
      rw [show (outsAt0 m c t.val t.isLt).2.1 = _ from den_next m c t h, pay2_at]; rfl)
    (le_of_eq N_0) tLast N_0.symm s
  refine e.trans ?_
  rw [zero_add, ← sum_nodes]
  simp only [expT_at]

/-- The pooled accumulator at the end: the sum of the masked exponentials times the hidden rows. -/
theorem pool_at (c : Dev nD) (s : Fin 16) (d : Fin 512) :
    (outsAt0 m c tLast.val tLast.isLt).2.2 (ix2 s d) = ∑ n, nodeExp m c s n * nodeHid m c n d := by
  have e := Pipeline.eq_sum_fin_of_reset_step_apply_last
    (fun n h (i : Fin 16 × Fin 512) => ((outsAt0 m c n h).2.2 (ix2 i.1 i.2) : EReal)) 25 (fun _ => 0)
    (fun t i => ∑ l : Fin 4000, expT m c t (ix2 i.1 l) * hidT m c t (ix2 l i.2))
    (fun t h i => by
      rw [show (outsAt0 m c t.val t.isLt).2.2 = _ from pool_first m c t h, pay3_at, pay6_at]; rfl)
    (fun t h i => by
      rw [show (outsAt0 m c t.val t.isLt).2.2 = _ from pool_next m c t h, pay3_at]; rfl)
    (le_of_eq N_0) tLast N_0.symm (s, d)
  refine e.trans ?_
  rw [zero_add, ← sum_nodes]
  simp only [expT_at, hidT_at]

/-- The kernel's result at a segment and a class: the pooled sums scaled by the reciprocal of the weights' sum,
    through the classifier. -/
theorem result_at (c : Dev nD) (s : Fin 16) (k : Fin 4) :
    Cert.KernelIdeal.Value.G11 m c (ix2 s k)
      = ∑ d : Fin 512, (∑ n, nodeExp m c s n * nodeHid m c n d)
            * (if 0 < ∑ n, nodeExp m c s n then Ideal.div 1 (∑ n, nodeExp m c s n) else 0)
            * (show EReal from m ((c : Thread nD τ).loc main_arg11) (ix2 k d))
          + (show EReal from m ((c : Thread nD τ).loc main_arg12) (ix1 k)) := by
  rw [Cert.KernelIdeal.Value.G11_last, ← Cert.KernelIdeal.Value.outsAt0_sweep m c 24 tLast.isLt,
    show (outsAt0 m c 24 tLast.isLt).1 = _ from out_last m c tLast rfl, pay4_at, den_at, bcls_at]
  simp only [pool_at, wcls_at]

end Cert.KernelValue
-- ==== Proof.Agree.lean ====
/- The kernel's result and the reference's are the same function of the arguments. -/
module
public import proofs.«01_k».proof.Proof.RefValue
public import proofs.«01_k».proof.Proof.KernelValue

@[expose] public section

set_option maxRecDepth 16384

noncomputable section

namespace Cert.Agree

open Cert.RefForm Cert.ReferenceIdeal Idealize.ShloMosaic
open Cert.Attn

/-- For real scores `q`, bias `b` and weights `w`, the score plus the shifted bias is the biased score less a real shift
    that does not depend on the node. -/
theorem shifted_sub (w : Fin 256 → ℝ) (b : ℝ) : ∃ sh : ℝ, ∀ q : ℝ,
    (q : EReal) + Cert.KernelBlocks.shifted (fun j => (w j : EReal)) (b : EReal) = ((q + b : ℝ) : EReal) - (sh : EReal) := by
  refine ⟨∑ j, max (w j) (-w j) + max b (-b), fun q => ?_⟩
  have hm : ∀ a : ℝ, max (a : EReal) (-(a : EReal)) = ((max a (-a) : ℝ) : EReal) := fun a => by
    rw [← EReal.coe_neg]; exact (EReal.coe_strictMono.monotone.map_max).symm
  unfold Cert.KernelBlocks.shifted
  simp only [hm]
  rw [← coe_sum_real, ← EReal.coe_add, ← EReal.coe_sub, ← EReal.coe_add, ← EReal.coe_sub, add_sub_assoc]

/-- The reference at a segment and a class, as the masked sums of shifted exponentials that the kernel forms, for any
    row of scores that differ from the reference's by a real shift. -/
theorem outA_at (x : FVec Ideal S100000x128 .f32) (bt : IVec S100000 32) (wh : FVec Ideal S512x128 .f32)
    (bh : FVec Ideal S512 .f32) (wa : FVec Ideal S256x512 .f32) (ba : FVec Ideal S256 .f32)
    (wb : FVec Ideal S256x512 .f32) (bb : FVec Ideal S256 .f32) (wc : FVec Ideal S1x256 .f32) (bc : FVec Ideal S1 .f32)
    (wcls : FVec Ideal S4x512 .f32) (bcls : FVec Ideal S4 .f32)
    (hw : ∀ j : Fin 256, ∃ r : ℝ, wc (ix2 0 j) = (r : EReal)) (hb : ∃ r : ℝ, bc (ix1 0) = (r : EReal))
    (hd : Fin 100000 → Fin 512 → EReal)
    (hhd : hd = fun n => hid (fun k => x (ix2 n k)) (fun d k => wh (ix2 d k)) (fun d => bh (ix1 d)))
    (ex : Fin 16 → Fin 100000 → EReal)
    (hex : ex = fun s n => if bt (ix1 n) = BitVec.ofNat 32 s.val then
      Ideal.exp (score (hd n) (fun j d => wa (ix2 j d)) (fun j => ba (ix1 j)) (fun j d => wb (ix2 j d)) (fun j => bb (ix1 j))
          (fun j => wc (ix2 0 j))
        + Cert.KernelBlocks.shifted (fun j => wc (ix2 0 j)) (bc (ix1 0))) else 0)
    (s : Fin 16) (k : Fin 4) :
    outA x bt wh bh wa ba wb bb wc bc wcls bcls (ix2 s k)
      = ∑ d : Fin 512, (∑ n, ex s n * hd n d) * (if 0 < ∑ n, ex s n then Ideal.div 1 (∑ n, ex s n) else 0) * wcls (ix2 k d)
        + bcls (ix1 k) := by
  have hs : ∀ n, ∃ r : ℝ, score (hd n) (fun j d => wa (ix2 j d)) (fun j => ba (ix1 j)) (fun j d => wb (ix2 j d))
      (fun j => bb (ix1 j)) (fun j => wc (ix2 0 j)) = (r : EReal) := fun n => score_real _ _ _ _ _ _ hw
  choose q hq using hs
  choose w hw' using hw
  obtain ⟨b, hb'⟩ := hb
  obtain ⟨sh, hsh⟩ := shifted_sub w b
  simp only [hw'] at hq
  have hex' : ∀ n, ex s n = if bt (ix1 n) = BitVec.ofNat 32 s.val then Ideal.exp (((q n + b : ℝ) : EReal) - (sh : EReal)) else 0 := by
    intro n
    rw [hex]
    simp only [hw', hb', hq, hsh]
  have hg : ∀ n, gateA (unitA (linA (hidA x wh bh) wa ba) (linA (hidA x wh bh) wb bb)) wc bc (ix1 n)
      = ((q n + b : ℝ) : EReal) := by
    intro n
    rw [gate_at, hb', EReal.coe_add, ← hq, hhd]
    simp only [hw']
  unfold outA
  rw [clsA_at]
  refine congrArg (fun z => z + bcls (ix1 k)) (Finset.sum_congr rfl fun d _ => ?_)
  refine congrArg (fun z => z * wcls (ix2 k d)) ?_
  rw [pooled_at]
  simp only [hg, hex', hidA_at]
  refine (segment_mean (fun n => bt (ix1 n) = BitVec.ofNat 32 s.val) (fun n => q n + b)
    (fun n => hid (fun k => x (ix2 n k)) (fun d k => wh (ix2 d k)) (fun d => bh (ix1 d)) d)
    (fun n => hid_nonneg _ _ _ _) sh _ ?_).trans ?_
  · rw [maxA_at]
    simp only [hg]
  · rw [hhd]

end Cert.Agree
-- ==== Proof.Finite.lean ====
/- What the precondition says of the last gate layer: its weights and its bias are real numbers. -/
module
public import proofs.«01_k».proof.Proof.Gen.Pre_finite_scores
public import proofs.«01_k».proof.Proof.Softmax
public import Idealize.ShloMosaic.Lib.Pointwise
public import Idealize.ShloMosaic.Lib.ReduceAll

@[expose] public section

set_option maxRecDepth 16384

noncomputable section

namespace Cert.Finite

open Cert.Pre_finite_scores Cert.Pre_finite_scores.Gen Idealize.ShloMosaic
open Cert.Attn

/-- The comparison of a magnitude with infinity, when it holds, makes the value real. -/
theorem real_of_cmp {x : EReal}
    (h : (FloatOps.cmpf (F := Ideal) (φ := .f32) .olt (FloatOps.absf (F := Ideal) (φ := .f32) x) (Ideal.ofBits .f32 0x7F800000#32)) = 1#1) :
    ∃ r : ℝ, x = (r : EReal) := by
  have htop : Ideal.ofBits .f32 0x7F800000#32 = ⊤ := by simp [Ideal.ofBits, Ideal.ieee]
  rw [htop] at h
  have h' : BitVec.ofBool (decide (max x (-x) < ⊤)) = 1#1 := h
  refine real_of_abs_lt_top ?_
  by_contra hn
  rw [decide_eq_false hn] at h'
  exact absurd h' (by decide)

/-- The precondition makes the last gate layer's weights and bias real. -/
theorem real_of_pre (a0 : FVec Ideal S100000x128 .f32) (a1 : IVec S2x1600000 32) (a2 : IVec S100000 32)
    (a3 : FVec Ideal S512x128 .f32) (a4 : FVec Ideal S512 .f32) (a5 : FVec Ideal S256x512 .f32) (a6 : FVec Ideal S256 .f32)
    (a7 : FVec Ideal S256x512 .f32) (a8 : FVec Ideal S256 .f32) (a9 : FVec Ideal S1x256 .f32) (a10 : FVec Ideal S1 .f32)
    (a11 : FVec Ideal S4x512 .f32) (a12 : FVec Ideal S4 .f32)
    (h : fn (F := Ideal) a0 a1 a2 a3 a4 a5 a6 a7 a8 a9 a10 a11 a12 = fun _ => 1#1) :
    (∀ j : Fin 256, ∃ r : ℝ, a9 (ix2 0 j) = (r : EReal)) ∧ ∃ r : ℝ, a10 (ix1 0) = (r : EReal) := by
  have e := congrFun h ix0
  have two : ∀ a b : BitVec 1, IntOp.andi a b = 1#1 → a = 1#1 ∧ b = 1#1 := by decide
  obtain ⟨e1, e2⟩ := two _ _ e
  exact ⟨fun j => real_of_cmp (Host.reduce_andi_all _ _ _ _ ix0 e1 (ix2 0 j)),
    real_of_cmp (Host.reduce_andi_all _ _ _ _ ix0 e2 (ix1 0))⟩

end Cert.Finite
-- ==== Proof.lean ====
module
public import proofs.«01_k».proof.Defs
public import proofs.«01_k».proof.Proof.Gen.Kernel.Frame
public import proofs.«01_k».proof.Proof.Gen.KernelIdeal.Value
public import proofs.«01_k».proof.Proof.Gen.Pre_finite_scores
public import proofs.«01_k».proof.Proof.Gen.ReferenceIdeal.Run
public import proofs.«01_k».proof.Proof.Agree
public import proofs.«01_k».proof.Proof.Finite
public import Idealize.ShloMosaic.Adequacy
public import Idealize.ShloMosaic.Init
public import Idealize.ShloMosaic.Lib.Quiescent

@[expose] public section

set_option maxRecDepth 16384

namespace Cert.Proof

open Idealize.ShloMosaic Idealize.SL.Sem

/-- The reference runs, changes nothing and leaves no semaphore raised. -/
theorem reference_quiescent : Cert.quiescent_ReferenceIdeal := fun m ρ _ =>
  (θ_run Cert.ReferenceIdeal.defs _ _).mono
    (fun r h => (⟨fun c => (h c).2, sem_eq_zero_of_no_sems (by decide) r.2⟩ : _ ∧ _))
    (Cert.ReferenceIdeal.Value.run (F := Ideal) m ρ)

/-- The same from memories that meet the precondition. -/
theorem reference_quiescent_pre : Cert.quiescent_ReferenceIdeal_pre_finite_scores := fun m ρ _ =>
  (θ_run Cert.ReferenceIdeal.defs _ _).mono
    (fun r h => (⟨fun c => (h c).2, sem_eq_zero_of_no_sems (by decide) r.2⟩ : _ ∧ _))
    (Cert.ReferenceIdeal.Value.run (F := Ideal) m ρ)

/-- On a device, from equal arguments whose last gate layer is finite, the reference's result is the kernel's. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_scores.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) = fun _ => 1#1)
    (hagree : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9)
        = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10)
        = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11)
        = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12)
        = m ((c.tc : Thread Cert.KernelIdeal.nD Cert.KernelIdeal.τ).loc Cert.KernelIdeal.main_arg12)) :
    Cert.ReferenceIdeal.Value.res_main_v70 m' c = Cert.KernelIdeal.Value.G11 m c := by
  obtain ⟨e0, -, e2, e3, e4, e5, e6, e7, e8, e9, e10, e11, e12⟩ := hagree
  obtain ⟨hw, hb⟩ := Cert.Finite.real_of_pre _ _ _ _ _ _ _ _ _ _ _ _ _ hpre
  rw [Cert.RefForm.res_eq, e0, e2, e3, e4, e5, e6, e7, e8, e9, e10, e11, e12]
  funext i
  idx_vars i
  rw [Cert.KernelValue.result_at]
  exact Cert.Agree.outA_at _ _ _ _ _ _ _ _ _ _ _ _ hw hb (Cert.KernelValue.nodeHid m c) rfl
    (Cert.KernelValue.nodeExp m c) rfl _ _

/-- The kernel's result is the reference's. -/
theorem algebraic : Cert.algebraic_KernelIdeal_ReferenceIdeal_pre_finite_scores := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, result_eq m m' c (hpre c) (hagree c)]

/-- All claims. -/
theorem claim : Cert.Claim :=
  ⟨Cert.Kernel.Gen.facts, Cert.KernelIdeal.Gen.facts, Cert.ReferenceIdeal.Gen.facts, Cert.Pre_finite_scores.Gen.facts,
   fun m ρ _ => Cert.Kernel.Gen.frame m ρ, fun m ρ _ => Cert.KernelIdeal.Gen.frame m ρ,
   fun m ρ _ => Cert.KernelIdeal.Gen.frame m ρ, reference_quiescent, reference_quiescent_pre,
   (trivial : Cert.preserves_Kernel_KernelIdeal), algebraic⟩

end Cert.Proof
